-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_logit_is_minus_infinity [hPre_no_logit_is_minus_infinity : Cert.Pre_no_logit_is_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_logit_is_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_logit_is_minus_infinity [hPre_no_logit_is_minus_infinity : Cert.Pre_no_logit_is_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_logit_is_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_logit_is_minus_infinity [hKernelIdeal : Cert.KernelIdeal.Facts] [hPre_no_logit_is_minus_infinity : Cert.Pre_no_logit_is_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_logit_is_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_logit_is_minus_infinity [hReferenceIdeal : Cert.ReferenceIdeal.Facts] [hPre_no_logit_is_minus_infinity : Cert.Pre_no_logit_is_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_logit_is_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_logit_is_minus_infinity [hKernelIdeal : Cert.KernelIdeal.Facts] [hReferenceIdeal : Cert.ReferenceIdeal.Facts] [hPre_no_logit_is_minus_infinity : Cert.Pre_no_logit_is_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_logit_is_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_logit_is_minus_infinity : Cert.Pre_no_logit_is_minus_infinity.Facts),
    quiescent_Kernel (hKernel := hKernel)
    ∧ quiescent_KernelIdeal (hKernelIdeal := hKernelIdeal)
    ∧ quiescent_KernelIdeal_pre_no_logit_is_minus_infinity (hKernelIdeal := hKernelIdeal) (hPre_no_logit_is_minus_infinity := hPre_no_logit_is_minus_infinity)
    ∧ quiescent_ReferenceIdeal (hReferenceIdeal := hReferenceIdeal)
    ∧ quiescent_ReferenceIdeal_pre_no_logit_is_minus_infinity (hReferenceIdeal := hReferenceIdeal) (hPre_no_logit_is_minus_infinity := hPre_no_logit_is_minus_infinity)
    ∧ preserves_Kernel_KernelIdeal
    ∧ algebraic_KernelIdeal_ReferenceIdeal_pre_no_logit_is_minus_infinity (hKernelIdeal := hKernelIdeal) (hReferenceIdeal := hReferenceIdeal) (hPre_no_logit_is_minus_infinity := hPre_no_logit_is_minus_infinity)
-- ==== Pre_no_logit_is_minus_infinity.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S_ : Shape := ⟨0, ![]⟩

class Facts : Prop where
  transposes_S64x4096_S4096x64_1_0 : S64x4096.Transposes [1, 0] S4096x64
  bcast_S_S16384x64 : S_.BroadcastsInDim S16384x64 (![] : Fin 0 → Fin S16384x64.rank)
  dot_S16384x4096_S4096x64_S16384x64_1_0_0_1_n_n_wf : DotDims.WF S16384x4096 S4096x64 S16384x64 [1] [0] [0] [1] [] []

variable [Facts]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def fn {F : FTy → Type} [FloatOps F] (main_arg0 : FVec F S16384x4096 .f32) (main_arg1 : FVec F S64x4096 .f32) : IVec S16384x64 1 :=
  let main_v0 : FVec F S4096x64 .f32 := (transpose S4096x64 [1, 0] · transposes_S64x4096_S4096x64_1_0) main_arg1
  let main_v1 : FVec F S16384x64 .f32 := (fun l r => Host.dotGeneral dot_S16384x4096_S4096x64_S16384x64_1_0_0_1_n_n none l r) main_arg0 main_v0
  let main_cst : FVec F S_ .f32 := constant S_ .f32 0xFF800000#32
  let main_v2 : FVec F S16384x64 .f32 := broadcastInDim S16384x64 ![] bcast_S_S16384x64 main_cst
  let main_v3 : IVec S16384x64 1 := cmpf .ogt main_v1 main_v2
  main_v3
-- ==== Kernel.lean ====
abbrev S16384x4096 : Shape := ⟨2, ![16384, 4096]⟩
abbrev S64x4096 : Shape := ⟨2, ![64, 4096]⟩
abbrev S16384x8 : Shape := ⟨2, ![16384, 8]⟩
abbrev S1024x2048 : Shape := ⟨2, ![1024, 2048]⟩
abbrev S64x2048 : Shape := ⟨2, ![64, 2048]⟩
abbrev S1024x8 : Shape := ⟨2, ![1024, 8]⟩
abbrev S64x1024 : Shape := ⟨2, ![64, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S16384x8, .f32⟩
  | .hbm, ⟨3, _⟩ => ⟨S16384x8, .i32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x2048, .f32⟩
  | .local _ .vmem, ⟨6, _⟩ => ⟨S1024x8, .f32⟩
  | .local _ .vmem, ⟨7, _⟩ => ⟨S1024x8, .f32⟩
  | .local _ .vmem, ⟨8, _⟩ => ⟨S1024x8, .i32⟩
  | .local _ .vmem, ⟨9, _⟩ => ⟨S1024x8, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S16384x8 : Shape := ⟨2, ![16384, 8]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S16384x8, .f32⟩
  | .hbm, ⟨5, _⟩ => ⟨S16384x8, .i32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x8, .f32⟩
  | .hbm, ⟨19, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Picks.lean ====
/-
  Picking the greatest entry of a list of extended reals over and over: each round takes the first position at which the
  greatest value stands and writes minus infinity there. While some entry above minus infinity is left, the picked
  positions are those a stable descending sort of the original list puts first.
-/
module

public import Idealize.ShloMosaic.Lib.SortPrefix
public import Mathlib.Data.EReal.Basic
public import Mathlib.Data.Finset.Fold

@[expose] public section

namespace Cert.Picks

open Idealize.ShloMosaic

variable {n : Nat}

/-- `p` is the first position at which `w` has its greatest value. -/
structure IsPick (w : Fin n → EReal) (p : Fin n) : Prop where
  top : ∀ q, w q ≤ w p
  first : ∀ q, q < p → w q < w p

/-- A list of at least one extended real has a first position of its greatest value. -/
theorem exists_pick (hn : 0 < n) (w : Fin n → EReal) : ∃ p, IsPick w p := by
  classical
  haveI : Nonempty (Fin n) := ⟨⟨0, hn⟩⟩
  obtain ⟨a, -, ha⟩ := Finset.exists_max_image Finset.univ w Finset.univ_nonempty
  replace ha : ∀ q, w q ≤ w a := fun q => ha q (Finset.mem_univ q)
  have hne : (Finset.univ.filter fun q : Fin n => w q = w a).Nonempty := ⟨a, by simp⟩
  have hm := Finset.min'_mem _ hne
  generalize hp : (Finset.univ.filter fun q : Fin n => w q = w a).min' hne = p at hm
  have hpa : w p = w a := by simpa using hm
  refine ⟨p, fun q => hpa ▸ ha q, fun q hq => lt_of_le_of_ne (hpa ▸ ha q) fun e => ?_⟩
  have := Finset.min'_le _ q (by simp [e, hpa] : q ∈ Finset.univ.filter fun q : Fin n => w q = w a)
  rw [hp] at this
  exact absurd hq (not_lt.mpr this)

/-- The maximum over all positions, started from minus infinity, is the value at any position above all others. -/
theorem fold_max_eq {w : Fin n → EReal} {p : Fin n} (h : ∀ q, w q ≤ w p) :
    (Finset.univ : Finset (Fin n)).fold max ⊥ w = w p := by
  apply le_antisymm
  · exact Finset.fold_max_le _ |>.mpr ⟨bot_le, fun q _ => h q⟩
  · exact Finset.le_fold_max _ |>.mpr (Or.inr ⟨p, Finset.mem_univ _, le_rfl⟩)

/-- The tags of the positions at which `w` has the value `m`, and `c` elsewhere. -/
noncomputable def tags (s : Fin n → EReal) (c m : EReal) (w : Fin n → EReal) : Fin n → EReal := fun q => if w q = m then s q else c

/-- `w` with minus infinity at the positions whose tag is `r`. -/
noncomputable def drop (t : Fin n → EReal) (r : EReal) (w : Fin n → EReal) : Fin n → EReal := fun q => if t q = r then ⊥ else w q

/-- With tags that fall along the positions and stay above `c`, the greatest tag is the first position's. -/
theorem fold_tags {s : Fin n → EReal} {c : EReal} (hs : ∀ p q, p < q → s q < s p) (hc : ∀ q, c < s q)
    {w : Fin n → EReal} {p : Fin n} (h : IsPick w p) :
    (Finset.univ : Finset (Fin n)).fold max ⊥ (tags s c (w p) w) = s p := by
  have hp : tags s c (w p) w p = s p := by simp [tags]
  rw [fold_max_eq (p := p), hp]
  intro q
  rw [hp]
  unfold tags
  split
  · next e =>
    rcases lt_trichotomy q p with hq | rfl | hq
    · exact absurd e (h.first q hq).ne
    · exact le_rfl
    · exact (hs p q hq).le
  · exact (hc p).le

/-- Dropping the greatest tag writes minus infinity at the picked position alone. -/
theorem drop_tags {s : Fin n → EReal} {c : EReal} (hs : ∀ p q, p < q → s q < s p) (hc : ∀ q, c < s q)
    {w : Fin n → EReal} {p : Fin n} (_h : IsPick w p) : drop (tags s c (w p) w) (s p) w = Function.update w p ⊥ := by
  funext q
  by_cases hq : q = p
  · subst hq; simp [drop, tags]
  · rw [Function.update_of_ne hq]
    have : tags s c (w p) w q ≠ s p := by
      unfold tags
      split
      · rcases lt_or_gt_of_ne hq with hl | hl
        · exact (hs q p hl).ne'
        · exact (hs p q hl).ne
      · exact (hc p).ne
    simp [drop, this]

/-- `k` rounds of picking: `W r` is the list before round `r`, `σ r` the position picked there. -/
structure Rounds (W : Nat → Fin n → EReal) (σ : Nat → Fin n) (k : Nat) : Prop where
  pick : ∀ r, r < k → IsPick (W r) (σ r)
  next : ∀ r, r < k → W (r + 1) = Function.update (W r) (σ r) ⊥

namespace Rounds

variable {W : Nat → Fin n → EReal} {σ : Nat → Fin n} {k : Nat} (h : Rounds W σ k)
include h

/-- A position picked before round `r` reads minus infinity there; any other reads its first value. -/
theorem read (r : Nat) (hr : r ≤ k) (q : Fin n) :
    ((∃ i, i < r ∧ σ i = q) ∧ W r q = ⊥) ∨ ((∀ i, i < r → σ i ≠ q) ∧ W r q = W 0 q) := by
  induction r with
  | zero => exact Or.inr ⟨fun i hi => absurd hi (Nat.not_lt_zero i), rfl⟩
  | succ r ih =>
    rw [h.next r (by omega)]
    by_cases e : q = σ r
    · subst e; exact Or.inl ⟨⟨r, by omega, rfl⟩, by simp⟩
    · rw [Function.update_of_ne e]
      rcases ih (by omega) with ⟨⟨i, hi, hq⟩, hb⟩ | ⟨hn, hv⟩
      · exact Or.inl ⟨⟨i, by omega, hq⟩, hb⟩
      · refine Or.inr ⟨fun i hi => ?_, hv⟩
        rcases Nat.lt_succ_iff_lt_or_eq.mp hi with hi | rfl
        · exact hn i hi
        · exact fun e' => e e'.symm

/-- With every entry above minus infinity and no more rounds than entries, round `r` picks a position no earlier round
    picked. -/
theorem fresh (hb : ∀ q, ⊥ < W 0 q) (hk : k ≤ n) (r : Nat) (hr : r < k) (i : Nat) (hi : i < r) : σ i ≠ σ r := by
  obtain ⟨q, hq⟩ : ∃ q : Fin n, ∀ i, i < r → σ i ≠ q := by
    classical
    by_contra hc
    push Not at hc
    have hs : Function.Surjective fun i : Fin r => σ i := fun q => by
      obtain ⟨i, hi, e⟩ := hc q; exact ⟨⟨i, hi⟩, e⟩
    have := Fintype.card_le_of_surjective _ hs
    simp at this
    omega
  have hWq : ⊥ < W r q := by
    rcases h.read r hr.le q with ⟨⟨i, hi, e⟩, _⟩ | ⟨_, hv⟩
    · exact absurd e (hq i hi)
    · rw [hv]; exact hb q
  have hWp := lt_of_lt_of_le hWq ((h.pick r hr).top q)
  rcases h.read r hr.le (σ r) with ⟨_, hv⟩ | ⟨hn, _⟩
  · exact absurd hv hWp.ne'
  · exact hn i hi

/-- Then the value found by round `r` is the original entry at the picked position. -/
theorem value (hb : ∀ q, ⊥ < W 0 q) (hk : k ≤ n) (r : Nat) (hr : r < k) : W r (σ r) = W 0 (σ r) := by
  rcases h.read r hr.le (σ r) with ⟨⟨i, hi, e⟩, _⟩ | ⟨_, hv⟩
  · exact absurd e (h.fresh hb hk r hr i hi)
  · exact hv

/-- And a position round `r` leaves unpicked, and no earlier round picked, comes after the pick: its entry is smaller, or
    equal and further along. -/
theorem after (hb : ∀ q, ⊥ < W 0 q) (hk : k ≤ n) (r : Nat) (hr : r < k) (q : Fin n) (hq : ∀ i, i ≤ r → σ i ≠ q) :
    W 0 q < W 0 (σ r) ∨ (W 0 q = W 0 (σ r) ∧ σ r < q) := by
  have hv := h.value hb hk r hr
  have hWq : W r q = W 0 q := by
    rcases h.read r hr.le q with ⟨⟨i, hi, e⟩, _⟩ | ⟨_, hv⟩
    · exact absurd e (hq i hi.le)
    · exact hv
  have hne := hq r le_rfl
  rw [← hWq, ← hv]
  rcases lt_or_gt_of_ne hne with hl | hl
  · rcases lt_or_eq_of_le ((h.pick r hr).top q) with hlt | heq
    · exact Or.inl hlt
    · exact Or.inr ⟨heq, hl⟩
  · exact Or.inl ((h.pick r hr).first q hl)

end Rounds

/-- "The entry at `a` is greater than the one at `b`, or equal and earlier." -/
noncomputable def before (w : Fin n → EReal) (a b : Fin n) : Bool :=
  decide (w b < w a) || (decide (w a = w b) && decide (a < b))

/-- "Greater, or equal and earlier" is a strict total order of the positions. -/
theorem strictTotal_before (w : Fin n → EReal) : StrictTotalBefore (before w) :=
  StrictTotalBefore.of_key_then_position (fun a b : EReal => decide (b < a)) w (by simp)
    (fun a b c h h' => by
      simp only [decide_eq_true_eq] at h h' ⊢
      exact lt_trans h' h)
    (fun a b => by
      simp only [decide_eq_true_eq]
      rcases lt_trichotomy a b with h | h | h
      · exact Or.inr (Or.inr h)
      · exact Or.inr (Or.inl h)
      · exact Or.inl h)

/-- A stable sort of rising positions by "greater" is the sort by "greater, or equal and earlier". -/
theorem stableSort_eq (w : Fin n → EReal) (l : List (Fin n)) (hl : l.Pairwise (· < ·)) :
    stableSort (fun a b => decide (w b < w a)) l = stableSort (before w) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ l).mem_iff.mp hb)
    simp [before, hab.not_gt, not_lt.mpr hab.le]

/-- The two sorts of all positions take the same source for each place. -/
theorem sortedFrom_eq (w : Fin n → EReal) : sortedFrom (fun a b => decide (w b < w a)) = sortedFrom (before w) := by
  have e : sortPositions n (fun a b => decide (w b < w a)) = sortPositions n (before w) :=
    stableSort_eq w _ (List.pairwise_lt_finRange n)
  funext k
  unfold sortedFrom
  simp only [List.get_eq_getElem, e]
  rfl

/-- THE PICKS ARE THE SORT'S FIRST PLACES: `k` rounds on entries above minus infinity pick, in order, the sources of the
    first `k` places of the stable descending sort. -/
theorem Rounds.sortedFrom {W : Nat → Fin n → EReal} {σ : Nat → Fin n} {k : Nat} (h : Rounds W σ k) (hb : ∀ q, ⊥ < W 0 q)
    (hk : k ≤ n) (i : Fin k) :
    Idealize.ShloMosaic.sortedFrom (fun a b => decide (W 0 b < W 0 a)) (i.castLE hk) = σ i := by
  rw [sortedFrom_eq]
  refine (strictTotal_before (W 0)).sortedFrom_eq_of_prefix hk (fun i => σ i) ?_ ?_ ?_ i
  · intro i j e
    rcases lt_trichotomy i j with hl | hl | hl
    · exact absurd e (h.fresh hb hk j j.isLt i hl)
    · exact hl
    · exact absurd e.symm (h.fresh hb hk i i.isLt j hl)
  · intro i j hij
    have ha := h.after hb hk i i.isLt (σ j) (fun a haj => h.fresh hb hk j j.isLt a (lt_of_le_of_lt haj hij))
    rcases ha with ha | ⟨ha, hp⟩
    · simp [before, ha.not_gt, ha.ne]
    · simp [before, ha, hp.not_gt, not_lt.mpr hp.le]
  · intro i p hp
    have ha := h.after hb hk i i.isLt p (fun a hai => hp ⟨a, lt_of_le_of_lt hai i.isLt⟩)
    rcases ha with ha | ⟨ha, hl⟩
    · simp [before, ha.not_gt, ha.ne]
    · simp [before, ha, hl.not_gt, not_lt.mpr hl.le]

/-- The values found fall from round to round. -/
theorem Rounds.value_le_first {W : Nat → Fin n → EReal} {σ : Nat → Fin n} {k : Nat} (h : Rounds W σ k) (hb : ∀ q, ⊥ < W 0 q)
    (hk : k ≤ n) (r : Nat) (hr : r < k) : W r (σ r) ≤ W 0 (σ 0) := by
  rw [h.value hb hk r hr]
  exact (h.pick 0 (by omega)).top _

end Cert.Picks
-- ==== Proof.Columns.lean ====
/-
  One selection round of the kernel, read down one column of a block of logits. The block holds the 64 logits of a row of
  `x` as a column; a round takes the column's maximum, tags the positions that attain it with 63 minus the position, takes
  the greatest tag and writes minus infinity where it stands. In each column this is a round of `Cert.Picks`.
-/
module

public import proofs.«01_k».proof.Proof.Gen.KernelIdeal.Skeleton
public import proofs.«01_k».proof.Proof.Picks
public import Idealize.ShloMosaic.PureOps.Ideal.Laws
public import Idealize.ShloMosaic.Lib.ValueIdx
public import Idealize.ShloMosaic.Lib.ValueLayout

@[expose] public section

noncomputable section

namespace Cert.Columns

open Cert.KernelIdeal Cert.KernelIdeal.Gen Cert.Picks Idealize.ShloMosaic Idealize.ShloMosaic.ValueIdx

/-- A block of 1024 columns of 64 logits. -/
abbrev Block := FVec Ideal S64x1024 .f32

/-- One number for each of the 1024 columns. -/
abbrev Line := FVec Ideal S1x1024 .f32

/-- The maximum of each column. -/
def colMax (w : Block) : Line :=
  shapeCast S1x1024 (multiReduction .maximumf [0] S1024 w 0xFF800000#32 reduces_S64x1024_S1024 (.inl rfl) rfl)
    shapeCasts_S1024_S1x1024

/-- 63 minus the position where the column's maximum stands, minus one elsewhere. -/
def tag (w : Block) : Block :=
  select (cmpf .oeq w (broadcastTo S64x1024 (colMax w) broadcasts_S1x1024_S64x1024)) (k0_pay9 (F := Ideal))
    (broadcast S64x1024 (Scalar.ofBits .f32 0xBF800000#32))

/-- The block after a round: minus infinity where the greatest tag stands. -/
def next (w : Block) : Block :=
  select (cmpf .oeq (tag w) (broadcastTo S64x1024 (colMax (tag w)) broadcasts_S1x1024_S64x1024))
    (broadcast S64x1024 (Scalar.ofBits .f32 0xFF800000#32)) w

/-- The block before round `r`. -/
def rounds (w : Block) : Nat → Block
  | 0 => w
  | r + 1 => next (rounds w r)

/-- Column `j` of a block. -/
def col (w : Block) (j : Fin 1024) : Fin 64 → EReal := fun e => w (ix2 e j)

/-- The tag of position `e`. -/
def score (e : Fin 64) : EReal := (((63 - (e.val : ℤ) : ℤ) : ℝ) : EReal)

/-- The pattern of minus infinity is minus infinity. -/
theorem ofBits_bot : Ideal.ofBits .f32 0xFF800000#32 = ⊥ := by simp [Ideal.ofBits, Ideal.ieee]

/-- The pattern of minus one is minus one. -/
theorem ofBits_minus_one : Ideal.ofBits .f32 0xBF800000#32 = -1 := IdealRules.sign_bit.ideal_negOnePat .f32

/-- Tags fall along the positions. -/
theorem score_lt (p q : Fin 64) (h : p < q) : score q < score p := by
  unfold score
  rw [EReal.coe_lt_coe_iff]
  have : p.val < q.val := h
  exact_mod_cast (by omega : (63 - (q.val : ℤ)) < 63 - (p.val : ℤ))

/-- Every tag is above minus one. -/
theorem lt_score (q : Fin 64) : (-1 : EReal) < score q := by
  unfold score
  rw [← EReal.coe_one, ← EReal.coe_neg, EReal.coe_lt_coe_iff]
  have : q.val < 64 := q.isLt
  exact_mod_cast (by omega : (-1 : ℤ) < 63 - (q.val : ℤ))

/-- The tag array holds `score` at every position. -/
theorem pay9_apply (e : Fin 64) (j : Fin 1024) : (k0_pay9 (F := Ideal)) (ix2 e j) = score e := by
  have h : ∀ e : Fin 64, ((63#32 - BitVec.ofNat 32 (0 * 64 + e.val) : BitVec 32).toInt) = 63 - (e.val : ℤ) := by decide
  show (((63#32 - BitVec.ofNat 32 (0 * 64 + e.val) : BitVec 32).toInt : ℝ) : EReal) = score e
  rw [h]; rfl

/-- A column's maximum is the maximum of its entries, started from minus infinity. -/
theorem colMax_apply (w : Block) (j : Fin 1024) :
    colMax w (ix2 (0 : Fin 1) j) = (Finset.univ : Finset (Fin 64)).fold max ⊥ (col w j) := by
  unfold colMax
  rw [shapeCast_apply _ _ (ix2 (0 : Fin 1) j) (ix1 j) (by
    rw [Shape.rowMajor_val_two, Shape.rowMajor_val_one]; simp)]
  refine (Ideal.multiReduction_maximumf_single w 0xFF800000#32 reduces_S64x1024_S1024 (.inl rfl) rfl (ix1 j)).trans ?_
  show (Finset.univ : Finset (Fin 64)).fold max (Ideal.ofBits .f32 0xFF800000#32) _ = _
  rw [ofBits_bot]
  refine congrArg (fun f => (Finset.univ : Finset (Fin 64)).fold max ⊥ f) (funext fun e => ?_)
  show w _ = w _
  refine congrArg w (funext fun a => ?_)
  match a with
  | ⟨0, _⟩ => rfl
  | ⟨1, _⟩ => rfl

/-- A select on an equality test is the choice by equality. -/
theorem select_oeq (a b x y : EReal) :
    Scalar.select (FloatOps.cmpf (F := Ideal) (φ := .f32) .oeq a b) x y = if a = b then x else y := by
  rw [Ideal.cmpf_def]
  by_cases h : a = b
  · simp [Ideal.cmp, h, Scalar.select]
  · simp [Ideal.cmp, h, Scalar.select]

/-- A column's tags are `Cert.Picks.tags` of the column. -/
theorem col_tag (w : Block) (j : Fin 1024) : col (tag w) j = tags score (-1) (colMax w (ix2 (0 : Fin 1) j)) (col w j) := by
  funext e
  unfold col tag tags
  rw [select_apply, cmpf_apply, broadcastTo_1b_ab_apply, broadcast_apply, pay9_apply, select_oeq]
  show (if _ then _ else Ideal.ofBits .f32 0xBF800000#32) = _
  rw [ofBits_minus_one]

/-- A column after a round is `Cert.Picks.drop` of the column. -/
theorem col_next (w : Block) (j : Fin 1024) :
    col (next w) j = drop (col (tag w) j) (colMax (tag w) (ix2 (0 : Fin 1) j)) (col w j) := by
  funext e
  unfold col next drop
  rw [select_apply, cmpf_apply, broadcastTo_1b_ab_apply, broadcast_apply, select_oeq]
  show (if _ then Ideal.ofBits .f32 0xFF800000#32 else _) = _
  rw [ofBits_bot]

/-- In each column the rounds are rounds of picking: there are picked positions, each round's maximum is the entry at its
    pick, and each round's greatest tag is the pick's. -/
theorem exists_rounds (w : Block) (j : Fin 1024) (k : Nat) : ∃ σ : Nat → Fin 64,
    Rounds (fun r => col (rounds w r) j) σ k
      ∧ (∀ r, colMax (rounds w r) (ix2 (0 : Fin 1) j) = col (rounds w r) j (σ r))
      ∧ ∀ r, colMax (tag (rounds w r)) (ix2 (0 : Fin 1) j) = score (σ r) := by
  choose σ hσ using fun r => exists_pick (by norm_num : 0 < 64) (col (rounds w r) j)
  have hmax : ∀ r, colMax (rounds w r) (ix2 (0 : Fin 1) j) = col (rounds w r) j (σ r) := fun r => by
    rw [colMax_apply, fold_max_eq (hσ r).top]
  have htag : ∀ r, colMax (tag (rounds w r)) (ix2 (0 : Fin 1) j) = score (σ r) := fun r => by
    rw [colMax_apply, col_tag, hmax, fold_tags score_lt lt_score (hσ r)]
  refine ⟨σ, ⟨fun r _ => hσ r, fun r _ => ?_⟩, hmax, htag⟩
  show col (next (rounds w r)) j = _
  rw [col_next, htag, col_tag, hmax, drop_tags score_lt lt_score (hσ r)]

end Cert.Columns
-- ==== Proof.Payloads.lean ====
/-
  The vectors the kernel's body computes, named by the selection rounds of `Cert.Columns`: each maximum it stores is the
  column maximum of the block before some round, and each index it stores is read off the greatest tag of that round.
-/
module

public import proofs.«01_k».proof.Proof.Columns
public import proofs.«01_k».proof.Proof.Gen.KernelIdeal.Frame

@[expose] public section

noncomputable section

namespace Cert.Columns

open Cert.KernelIdeal Cert.KernelIdeal.Gen Cert.Picks Idealize.ShloMosaic Idealize.ShloMosaic.ValueIdx

/-- The positions of a block that attain their column's maximum. -/
def atMax (w : Block) : IVec S64x1024 1 := cmpf .oeq w (broadcastTo S64x1024 (colMax w) broadcasts_S1x1024_S64x1024)

section First
variable (v0 : Vec Ideal S64x2048 .f32) (v1 : Vec Ideal S1024x2048 .f32) (v3 : Vec Ideal S64x2048 .f32)
  (v4 : Vec Ideal S1024x2048 .f32)

/-- The first maxima are the logits' column maxima. -/
theorem pay10_eq : k0_pay10 v0 v1 v3 v4 = colMax (rounds (k0_pay8 v0 v1 v3 v4) 0) := rfl
/-- The first tags are the logits' tags. -/
theorem pay11_eq : k0_pay11 v0 v1 v3 v4 = tag (rounds (k0_pay8 v0 v1 v3 v4) 0) := by
  unfold k0_pay11; rw [pay10_eq]; rfl
/-- The first greatest tags. -/
theorem pay12_eq : k0_pay12 v0 v1 v3 v4 = colMax (tag (rounds (k0_pay8 v0 v1 v3 v4) 0)) := by
  unfold k0_pay12; rw [pay11_eq]; rfl
/-- The block after one round. -/
theorem pay13_eq : k0_pay13 v0 v1 v3 v4 = rounds (k0_pay8 v0 v1 v3 v4) 1 := by
  unfold k0_pay13; rw [pay12_eq, pay11_eq]; rfl
/-- The second maxima. -/
theorem pay14_eq : k0_pay14 v0 v1 v3 v4 = colMax (rounds (k0_pay8 v0 v1 v3 v4) 1) := by
  unfold k0_pay14; rw [pay13_eq]; rfl
/-- The second tags. -/
theorem pay15_eq : k0_pay15 v0 v1 v3 v4 = tag (rounds (k0_pay8 v0 v1 v3 v4) 1) := by
  unfold k0_pay15; rw [pay14_eq, pay13_eq]; rfl
/-- The second greatest tags. -/
theorem pay16_eq : k0_pay16 v0 v1 v3 v4 = colMax (tag (rounds (k0_pay8 v0 v1 v3 v4) 1)) := by
  unfold k0_pay16; rw [pay15_eq]; rfl
/-- The block after two rounds. -/
theorem pay17_eq : k0_pay17 v0 v1 v3 v4 = rounds (k0_pay8 v0 v1 v3 v4) 2 := by
  unfold k0_pay17; rw [pay16_eq, pay15_eq, pay13_eq]; rfl
/-- The third maxima. -/
theorem pay18_eq : k0_pay18 v0 v1 v3 v4 = colMax (rounds (k0_pay8 v0 v1 v3 v4) 2) := by
  unfold k0_pay18; rw [pay17_eq]; rfl
/-- The third round's positions of the maxima. -/
theorem pay19_eq : k0_pay19 v0 v1 v3 v4 = atMax (rounds (k0_pay8 v0 v1 v3 v4) 2) := by
  unfold k0_pay19; rw [pay18_eq, pay17_eq]; rfl

end First

section Second
variable (w : Block)

/-- The tags of the block whose positions of maxima are given. -/
theorem pay20_eq : k0_pay20 (k0_pay9 (F := Ideal)) (atMax w) = tag w := rfl
/-- Their greatest. -/
theorem pay21_eq : k0_pay21 (k0_pay9 (F := Ideal)) (atMax w) = colMax (tag w) := by
  unfold k0_pay21; rw [pay20_eq]; rfl
/-- The block one round on. -/
theorem pay22_eq : k0_pay22 (k0_pay9 (F := Ideal)) w (atMax w) = next w := by
  unfold k0_pay22; rw [pay21_eq, pay20_eq]; rfl
/-- Its maxima. -/
theorem pay23_eq : k0_pay23 (k0_pay9 (F := Ideal)) w (atMax w) = colMax (next w) := by
  unfold k0_pay23; rw [pay22_eq]; rfl
/-- Its tags. -/
theorem pay24_eq : k0_pay24 (k0_pay9 (F := Ideal)) w (atMax w) = tag (next w) := by
  unfold k0_pay24; rw [pay23_eq, pay22_eq]; rfl
/-- Their greatest. -/
theorem pay25_eq : k0_pay25 (k0_pay9 (F := Ideal)) w (atMax w) = colMax (tag (next w)) := by
  unfold k0_pay25; rw [pay24_eq]; rfl
/-- The block two rounds on. -/
theorem pay26_eq : k0_pay26 (k0_pay9 (F := Ideal)) w (atMax w) = next (next w) := by
  unfold k0_pay26; rw [pay25_eq, pay24_eq, pay22_eq]; rfl
/-- Its maxima. -/
theorem pay27_eq : k0_pay27 (k0_pay9 (F := Ideal)) w (atMax w) = colMax (next (next w)) := by
  unfold k0_pay27; rw [pay26_eq]; rfl
/-- Its tags. -/
theorem pay28_eq : k0_pay28 (k0_pay9 (F := Ideal)) w (atMax w) = tag (next (next w)) := by
  unfold k0_pay28; rw [pay27_eq, pay26_eq]; rfl
/-- Their greatest. -/
theorem pay29_eq : k0_pay29 (k0_pay9 (F := Ideal)) w (atMax w) = colMax (tag (next (next w))) := by
  unfold k0_pay29; rw [pay28_eq]; rfl
/-- The block three rounds on. -/
theorem pay30_eq : k0_pay30 (k0_pay9 (F := Ideal)) w (atMax w) = next (next (next w)) := by
  unfold k0_pay30; rw [pay29_eq, pay28_eq, pay26_eq]; rfl
/-- Its maxima. -/
theorem pay31_eq : k0_pay31 (k0_pay9 (F := Ideal)) w (atMax w) = colMax (next (next (next w))) := by
  unfold k0_pay31; rw [pay30_eq]; rfl
/-- Its tags. -/
theorem pay32_eq : k0_pay32 (k0_pay9 (F := Ideal)) w (atMax w) = tag (next (next (next w))) := by
  unfold k0_pay32; rw [pay31_eq, pay30_eq]; rfl
/-- Their greatest. -/
theorem pay33_eq : k0_pay33 (k0_pay9 (F := Ideal)) w (atMax w) = colMax (tag (next (next (next w)))) := by
  unfold k0_pay33; rw [pay32_eq]; rfl
/-- The block four rounds on. -/
theorem pay34_eq : k0_pay34 (k0_pay9 (F := Ideal)) w (atMax w) = next (next (next (next w))) := by
  unfold k0_pay34; rw [pay33_eq, pay32_eq, pay30_eq]; rfl

/-- The last two rounds' vectors, from the block before them: maxima. -/
theorem pay1_eq : k0_pay1 w = colMax w := rfl
/-- Tags. -/
theorem pay2_eq : k0_pay2 (k0_pay9 (F := Ideal)) w = tag w := rfl
/-- Greatest tags. -/
theorem pay3_eq : k0_pay3 (k0_pay9 (F := Ideal)) w = colMax (tag w) := by
  unfold k0_pay3; rw [pay2_eq]; rfl
/-- The block before the last round. -/
theorem pay4_eq : k0_pay4 (k0_pay9 (F := Ideal)) w = next w := by
  unfold k0_pay4; rw [pay3_eq, pay2_eq]; rfl
/-- Its maxima. -/
theorem pay5_eq : k0_pay5 (k0_pay9 (F := Ideal)) w = colMax (next w) := by
  unfold k0_pay5; rw [pay4_eq]; rfl

end Second

/-- Eight lines stacked as eight rows. -/
def stack (f : Nat → Line) : FVec Ideal S8x1024 .f32 :=
  concatenate S8x1024 0 [⟨S1x1024, f 0⟩, ⟨S1x1024, f 1⟩, ⟨S1x1024, f 2⟩, ⟨S1x1024, f 3⟩, ⟨S1x1024, f 4⟩, ⟨S1x1024, f 5⟩,
    ⟨S1x1024, f 6⟩, ⟨S1x1024, f 7⟩]
    concatenates_S1x1024_S1x1024_S1x1024_S1x1024_S1x1024_S1x1024_S1x1024_S1x1024_S8x1024_d0

/-- Row `r` of the stack is line `r`. -/
theorem stack_apply (f : Nat → Line) (r : Fin 8) (j : Fin 1024) : stack f (ix2 r j) = f r (ix2 (0 : Fin 1) j) :=
  concatenate_ofFn_unit_apply (s₁ := S1x1024) (t := S8x1024) (0 : Fin 2) (N := 8) (fun n => f n)
    concatenates_S1x1024_S1x1024_S1x1024_S1x1024_S1x1024_S1x1024_S1x1024_S1x1024_S8x1024_d0 rfl rfl (ix2 r j) r rfl
    (ix2 (0 : Fin 1) j) fun b hb => by
      match b with
      | ⟨0, _⟩ => exact absurd rfl hb
      | ⟨1, _⟩ => rfl

/-- The softmax down each column of a stack, first row subtracted, turned to one row of eight for each column. -/
def softmaxT (s : FVec Ideal S8x1024 .f32) : FVec Ideal S1024x8 .f32 :=
  let e : FVec Ideal S8x1024 .f32 :=
    exp (subf s (broadcastTo S8x1024 (extractStridedSlice S1x1024 ![0, 0] s slices_S8x1024_o0_0_S1x1024) broadcasts_S1x1024_S8x1024))
  transpose S1024x8 [1, 0] (divf e (broadcastTo S8x1024 (shapeCast S1x1024
    (multiReduction .add [0] S1024 e 0x00000000#32 reduces_S8x1024_S1024 (.inl rfl) rfl) shapeCasts_S1024_S1x1024)
    broadcasts_S1x1024_S8x1024)) transposes_S8x1024_p1_0_S1024x8

/-- 63 minus a stack of tags as words, turned likewise. -/
def indexT (s : FVec Ideal S8x1024 .f32) : IVec S1024x8 32 :=
  transpose S1024x8 [1, 0] (subi (broadcast S8x1024 63#32) (fptosi 32 s)) transposes_S8x1024_p1_0_S1024x8

/-- The logits of a block of rows, as the body forms them from the four blocks it reads. -/
def logits (x0 x1 : Vec Ideal S1024x2048 .f32) (x2 x3 : Vec Ideal S64x2048 .f32) : Block := k0_pay8 x2 x0 x3 x1

/-- The two coordinates a whole read starts at are zero. -/
theorem zero_start : (![0, 0] : Fin 2 → Nat) = fun _ => 0 := by
  funext a; match a with | ⟨0, _⟩ => rfl | ⟨1, _⟩ => rfl

/-- What the body leaves in its first result block: the softmax of the eight rounds' maxima. -/
theorem out4_eq (x0 x1 : Vec Ideal S1024x2048 .f32) (x2 x3 : Vec Ideal S64x2048 .f32) :
    out0_4 x0 x1 x2 x3 = softmaxT (stack fun r => colMax (rounds (logits x0 x1 x2 x3) r)) := by
  unfold out0_4
  rw [View.canon_unit_zero zero_start]
  unfold k0_pay38 k0_pay37 k0_pay36 k0_pay35
  simp only [View.ld_unit_zero (S := S64x2048) zero_start, View.ld_unit_zero (S := S1024x2048) zero_start]
  rw [pay17_eq, pay19_eq, pay10_eq, pay14_eq, pay18_eq, pay23_eq, pay27_eq, pay31_eq, pay34_eq]
  unfold k0_pay6
  rw [pay1_eq, pay5_eq]
  rfl

/-- What the body leaves in its second result block: the positions read off the eight rounds' greatest tags. -/
theorem out5_eq (x0 x1 : Vec Ideal S1024x2048 .f32) (x2 x3 : Vec Ideal S64x2048 .f32) :
    out0_5 x0 x1 x2 x3 = indexT (stack fun r => colMax (tag (rounds (logits x0 x1 x2 x3) r))) := by
  unfold out0_5
  rw [View.canon_unit_zero zero_start]
  unfold k0_pay38 k0_pay37 k0_pay36 k0_pay35
  simp only [View.ld_unit_zero (S := S64x2048) zero_start, View.ld_unit_zero (S := S1024x2048) zero_start]
  rw [pay17_eq, pay19_eq, pay12_eq, pay16_eq, pay21_eq, pay25_eq, pay29_eq, pay33_eq, pay34_eq]
  unfold k0_pay7
  rw [pay3_eq, pay4_eq, pay5_eq]
  rfl

end Cert.Columns
-- ==== Proof.Logits.lean ====
/-
  The logits: the kernel forms them column by column as two sums of 2048 products, the reference row by row as one sum of
  4096. Entry by entry they are the same extended real, whatever the arguments hold.
-/
module

public import proofs.«01_k».proof.Proof.Payloads
public import proofs.«01_k».proof.Proof.Gen.ReferenceIdeal

@[expose] public section

noncomputable section

namespace Cert.Columns

open Cert.KernelIdeal Cert.KernelIdeal.Gen Idealize.ShloMosaic Idealize.ShloMosaic.TcCoe Idealize.SL.Sem Idealize.ShloMosaic.ValueIdx

/-- One product of a 64 by 2048 block with the transpose of a 1024 by 2048 block, entry by entry. -/
theorem half_apply (a : FVec Ideal S64x2048 .f32) (b : FVec Ideal S1024x2048 .f32) (e : Fin 64) (j : Fin 1024) :
    FloatOps.matmul dot_S64x2048_S1024x2048_S64x1024_1_1_0_0_n_n none a b (constant S64x1024 .f32 0x00000000#32) (ix2 e j)
      = ∑ k : Fin 2048, a (ix2 e k) * b (ix2 j k) := by
  rw [Ideal.matmul_constant_zero_apply]
  rw [← Equiv.sum_comp (contrEquiv1 dot_S64x2048_S1024x2048_S64x1024_1_1_0_0_n_n 2048 rfl rfl).symm]
  refine Finset.sum_congr rfl fun k _ => ?_
  refine congrArg₂ (· * ·) (congrArg a (funext fun ax => ?_)) (congrArg b (funext fun ax => ?_))
  · match ax with
    | ⟨0, _⟩ => rfl
    | ⟨1, _⟩ => rfl
  · match ax with
    | ⟨0, _⟩ => rfl
    | ⟨1, _⟩ => rfl

/-- The kernel's logit of position `e` in column `j`. -/
theorem logits_apply (x0 x1 : Vec Ideal S1024x2048 .f32) (x2 x3 : Vec Ideal S64x2048 .f32) (e : Fin 64) (j : Fin 1024) :
    logits x0 x1 x2 x3 (ix2 e j)
      = (∑ k : Fin 2048, x2 (ix2 e k) * x0 (ix2 j k) : EReal) + ∑ k : Fin 2048, x3 (ix2 e k) * x1 (ix2 j k) := by
  exact congrArg₂ (fun a b : EReal => a + b) (half_apply x2 x0 e j) (half_apply x3 x1 e j)

/-- The reference's logits, a row of 64 for each row of `x`. -/
def hostLogits (x : FVec Ideal S16384x4096 .f32) (w : FVec Ideal S64x4096 .f32) : FVec Ideal Cert.ReferenceIdeal.S16384x64 .f32 :=
  Host.dotGeneral Cert.ReferenceIdeal.dot_S16384x4096_S4096x64_S16384x64_1_0_0_1_n_n none x
    (transpose Cert.ReferenceIdeal.S4096x64 [1, 0] w Cert.ReferenceIdeal.Gen.transposes_S64x4096_S4096x64_1_0)

/-- The reference's logit of row `p` and position `e`. -/
theorem hostLogits_apply (x : FVec Ideal S16384x4096 .f32) (w : FVec Ideal S64x4096 .f32) (p : Fin 16384) (e : Fin 64) :
    hostLogits x w (ix2 p e) = ∑ k : Fin 4096, (x (ix2 p k) * w (ix2 e k) : EReal) := by
  unfold hostLogits
  simp only [Host.dotGeneral]
  rw [Ideal.dotGeneral_apply]
  rw [← Equiv.sum_comp (contrEquiv1 Cert.ReferenceIdeal.dot_S16384x4096_S4096x64_S16384x64_1_0_0_1_n_n 4096 rfl rfl).symm]
  refine Finset.sum_congr rfl fun k _ => ?_
  refine congrArg₂ (· * ·) (congrArg x (funext fun ax => ?_)) ?_
  · match ax with
    | ⟨0, _⟩ => rfl
    | ⟨1, _⟩ => rfl
  · refine Eq.trans (congrArg _ (funext fun ax => ?_)) (transpose_ix2_apply w Cert.ReferenceIdeal.Gen.transposes_S64x4096_S4096x64_1_0 k e)
    match ax with
    | ⟨0, _⟩ => rfl
    | ⟨1, _⟩ => rfl

/-- Row `1024 t + j` of the sixteen blocks of 1024 rows. -/
def rowAt (t : Fin 16) (j : Fin 1024) : Fin 16384 := ⟨t.val * 1024 + j.val, by have := t.isLt; have := j.isLt; omega⟩

/-- The left half's column `k` of 4096. -/
def left (k : Fin 2048) : Fin 4096 := ⟨k.val, by have := k.isLt; omega⟩

/-- The right half's column `k` of 4096. -/
def right (k : Fin 2048) : Fin 4096 := ⟨2048 + k.val, by have := k.isLt; omega⟩

/-- A sum over 4096 columns is the left half's plus the right half's. -/
theorem sum_halves (f : Fin 4096 → EReal) : ∑ k, f k = (∑ k : Fin 2048, f (left k)) + ∑ k : Fin 2048, f (right k) :=
  Fin.sum_univ_add (a := 2048) (b := 2048) f

/-- From blocks that are the halves of the rows `1024 t + j` of `x` and the halves of `w`, the kernel's logits are the
    reference's at those rows. -/
theorem logits_eq (x : FVec Ideal S16384x4096 .f32) (w : FVec Ideal S64x4096 .f32) (t : Fin 16)
    (x0 x1 : Vec Ideal S1024x2048 .f32) (x2 x3 : Vec Ideal S64x2048 .f32)
    (h0 : ∀ (j : Fin 1024) (k : Fin 2048), x0 (ix2 j k) = x (ix2 (rowAt t j) (left k)))
    (h1 : ∀ (j : Fin 1024) (k : Fin 2048), x1 (ix2 j k) = x (ix2 (rowAt t j) (right k)))
    (h2 : ∀ (e : Fin 64) (k : Fin 2048), x2 (ix2 e k) = w (ix2 e (left k)))
    (h3 : ∀ (e : Fin 64) (k : Fin 2048), x3 (ix2 e k) = w (ix2 e (right k))) (e : Fin 64) (j : Fin 1024) :
    logits x0 x1 x2 x3 (ix2 e j) = hostLogits x w (ix2 (rowAt t j) e) := by
  rw [logits_apply, hostLogits_apply, sum_halves]
  refine congrArg₂ (· + ·) (Finset.sum_congr rfl fun k _ => ?_) (Finset.sum_congr rfl fun k _ => ?_)
  · rw [h0, h2, mul_comm]
  · rw [h1, h3, mul_comm]

end Cert.Columns
-- ==== Proof.Results.lean ====
/-
  What the kernel's last operations make of the eight stacked lines, entry by entry: the softmax with the first line
  subtracted, and the positions read back from the tags.
-/
module

public import proofs.«01_k».proof.Proof.Payloads

@[expose] public section

noncomputable section

namespace Cert.Columns

open Cert.KernelIdeal Cert.KernelIdeal.Gen Idealize.ShloMosaic Idealize.ShloMosaic.TcCoe Idealize.SL.Sem Idealize.ShloMosaic.ValueIdx

/-- The softmax of eight numbers with the first subtracted. -/
def soft (v : Fin 8 → EReal) (r : Fin 8) : EReal :=
  Ideal.div (Ideal.exp (v r - v 0)) (∑ k : Fin 8, Ideal.exp (v k - v 0))

/-- The exponentials the kernel takes. -/
theorem expo_apply (s : FVec Ideal S8x1024 .f32) (r : Fin 8) (j : Fin 1024) :
    (exp (subf s (broadcastTo S8x1024 (extractStridedSlice S1x1024 ![0, 0] s slices_S8x1024_o0_0_S1x1024) broadcasts_S1x1024_S8x1024)) :
      FVec Ideal S8x1024 .f32) (ix2 r j) = Ideal.exp ((s (ix2 r j) : EReal) - s (ix2 (0 : Fin 8) j)) := by
  show Ideal.exp ((s (ix2 r j) : EReal) - broadcastTo S8x1024 (extractStridedSlice S1x1024 ![0, 0] s slices_S8x1024_o0_0_S1x1024) broadcasts_S1x1024_S8x1024 (ix2 r j)) = _
  rw [broadcastTo_1b_ab_apply, slice2_axis0_apply 0 s _ (0 : Fin 1) j (0 : Fin 8) rfl]

/-- The kernel's softmax, entry by entry. -/
theorem softmaxT_apply (s : FVec Ideal S8x1024 .f32) (j : Fin 1024) (r : Fin 8) :
    softmaxT s (ix2 j r) = soft (fun k => s (ix2 k j)) r := by
  unfold softmaxT
  simp only []
  rw [transpose_ix2_apply, divf_apply, expo_apply, broadcastTo_1b_ab_apply]
  rw [shapeCast_apply _ _ (ix2 (0 : Fin 1) j) (ix1 j) (by
    rw [Shape.rowMajor_val_two, Shape.rowMajor_val_one]; simp)]
  unfold soft
  refine congrArg (Ideal.div _) ?_
  refine (Ideal.multiReduction_add_single _ 0x00000000#32 reduces_S8x1024_S1024 (.inl rfl) rfl (ix1 j)).trans ?_
  refine Finset.sum_congr rfl fun k _ => ?_
  refine Eq.trans (congrArg _ (funext fun a => ?_)) (expo_apply s k j)
  match a with
  | ⟨0, _⟩ => rfl
  | ⟨1, _⟩ => rfl

/-- 63 minus the tag of a position, as a word, is the position. -/
theorem word_of_score (e : Fin 64) : (63#32 - Ideal.fptosi 32 (score e) : BitVec 32) = BitVec.ofNat 32 e.val := by
  have h : Ideal.fptosi 32 (score e) = BitVec.ofInt 32 (63 - (e.val : ℤ)) := by
    have := e.isLt
    unfold Ideal.fptosi score
    rw [Ideal.toIntClamped_coe]
    refine congrArg (BitVec.ofInt 32) ?_
    have h0 : (0 : ℤ) ≤ 63 - (e.val : ℤ) := by omega
    simp
    omega
  rw [h]
  exact (by decide : ∀ e : Fin 64, (63#32 - BitVec.ofInt 32 (63 - (e.val : ℤ)) : BitVec 32) = BitVec.ofNat 32 e.val) e

/-- The kernel's positions, entry by entry. -/
theorem indexT_apply (s : FVec Ideal S8x1024 .f32) (j : Fin 1024) (r : Fin 8) (e : Fin 64) (h : s (ix2 r j) = score e) :
    indexT s (ix2 j r) = BitVec.ofNat 32 e.val := by
  unfold indexT
  rw [transpose_ix2_apply]
  show (63#32 - Ideal.fptosi 32 (s (ix2 r j)) : BitVec 32) = _
  rw [h, word_of_score]

end Cert.Columns
-- ==== Proof.Reference.lean ====
/-
  The reference's results, entry by entry: its top-8 reads the stable sort of a row of 64, and its softmax subtracts the
  row's maximum, which is the first of the eight when they come in descending order.
-/
module

public import proofs.«01_k».proof.Proof.Logits
public import proofs.«01_k».proof.Proof.Results
public import proofs.«01_k».proof.Proof.Picks
public import Idealize.ShloMosaic.Lib.KernelVsHost
public import Idealize.ShloMosaic.Lib.IdealHost

@[expose] public section

noncomputable section

namespace Cert.Columns

open Cert.ReferenceIdeal Cert.ReferenceIdeal.Gen Cert.Picks Idealize.ShloMosaic Idealize.SL.Sem Idealize.ShloMosaic.ValueIdx

/-- The position of the `i`-th greatest of a row of 64, equal entries in their order. -/
def place (v : Fin 64 → EReal) (i : Fin 8) : Fin 64 :=
  sortedFrom (fun a b => decide (v b < v a)) (i.castLE (by decide))

/-- The reference's eight greatest of each row and their positions. -/
def top (l : FVec Ideal S16384x64 .f32) : FVec Ideal S16384x8 .f32 × IVec S16384x8 32 :=
  Host.topK S16384x8 1 (FloatOps.cmpfTotal .gt) l sliceFits_S16384x64_S16384x8

/-- The reference's softmax of the eight of each row. -/
def weights (v : FVec Ideal S16384x8 .f32) : FVec Ideal S16384x8 .f32 :=
  let e : FVec Ideal S16384x8 .f32 :=
    Host.exp (subf v (broadcastInDim S16384x8 ![0, 1] bcast_S16384x1_S16384x8_0_1 (broadcastInDim S16384x1 ![0] bcast_S16384_S16384x1_0
      (maximumf (broadcastInDim S16384 ![] bcast_S_S16384 (constant S_ .f32 0xFF800000#32))
        (Host.reduce FloatOps.maximumf v (constant S_ .f32 0xFF800000#32) reducesTo_S16384x8_S16384_d1 h_S_)))))
  Host.divf e (broadcastInDim S16384x8 ![0, 1] bcast_S16384x1_S16384x8_0_1 (broadcastInDim S16384x1 ![0] bcast_S16384_S16384x1_0
    (Host.reduceAdd e (constant S_ .f32 0x00000000#32) reducesTo_S16384x8_S16384_d1 h_S_)))

/-- A test of order as a one-bit word, read as a Boolean. -/
theorem gt_bool (a b : EReal) : (FloatOps.cmpfTotal (F := Ideal) (φ := .f32) .gt a b == 1#1) = decide (b < a) := by
  rw [Ideal.cmpfTotal_def]
  by_cases h : b < a
  · simp [Ideal.cmp, CmpDirection.ordered, h]
  · simp [Ideal.cmp, CmpDirection.ordered, h]

/-- An index of a row of 64 with its column replaced. -/
theorem along_col (p : Fin 16384) (q k : Fin 64) : (ix2 p q : S16384x64.Idx).along (1 : Fin 2) k = ix2 p k := by
  funext a
  match a with
  | ⟨0, _⟩ => rfl
  | ⟨1, _⟩ => rfl

/-- The reference's sort of a row and of the positions along it. -/
theorem sort_row (l : FVec Ideal S16384x64 .f32) (y : IVec S16384x64 32) (p : Fin 16384) (q : Fin 64) :
    let π : Fin 64 := sortedFrom (fun a b => decide ((l (ix2 p b) : EReal) < l (ix2 p a))) q
    (Host.sort2 S16384x64 1 (fun a b => FloatOps.cmpfTotal (F := Ideal) (φ := .f32) .gt a.1 b.1) l y).1 (ix2 p q) = l (ix2 p π)
    ∧ (Host.sort2 S16384x64 1 (fun a b => FloatOps.cmpfTotal (F := Ideal) (φ := .f32) .gt a.1 b.1) l y).2 (ix2 p q) = y (ix2 p π) := by
  intro π
  have hπ : sortedFrom (fun k k' : Fin 64 => FloatOps.cmpfTotal (F := Ideal) (φ := .f32) .gt
      (l ((ix2 p q : S16384x64.Idx).along (1 : Fin 2) k)) (l ((ix2 p q : S16384x64.Idx).along (1 : Fin 2) k')) == 1#1) q = π := by
    refine congrArg (fun f => sortedFrom f q) (funext fun k => funext fun k' => ?_)
    rw [gt_bool, along_col, along_col]
  unfold Host.sort2
  rw [dif_pos (by decide : 1 < S16384x64.rank)]
  constructor
  · refine Eq.trans ?_ (congrArg l (along_col p q π))
    rw [← hπ]; rfl
  · refine Eq.trans ?_ (congrArg y (along_col p q π))
    rw [← hπ]; rfl

/-- The positions along every row, as words. -/
def positions : IVec S16384x64 32 := fun i => if hd : 1 < S16384x64.rank then iotaInDim S16384x64 32 ⟨1, hd⟩ i else 0#32

/-- A position read. -/
theorem positions_apply (p : Fin 16384) (q : Fin 64) : positions (ix2 p q) = BitVec.ofNat 32 q.val := by
  unfold positions
  rw [dif_pos (by decide : 1 < S16384x64.rank)]
  rfl

/-- The top-8 is the first eight columns of the sort of the rows and the positions. -/
theorem top_eq (l : FVec Ideal S16384x64 .f32) : top l
    = (extractStridedSlice S16384x8 (fun _ => 0) (Host.sort2 S16384x64 1 (fun a b => FloatOps.cmpfTotal (F := Ideal) (φ := .f32) .gt a.1 b.1) l positions).1
        sliceFits_S16384x64_S16384x8,
      extractStridedSlice S16384x8 (fun _ => 0) (Host.sort2 S16384x64 1 (fun a b => FloatOps.cmpfTotal (F := Ideal) (φ := .f32) .gt a.1 b.1) l positions).2
        sliceFits_S16384x64_S16384x8) := rfl

/-- The first eight columns of a row of 64. -/
theorem first_eight {α : Type} (x : S16384x64.Idx → α) (p : Fin 16384) (r : Fin 8) :
    extractStridedSlice S16384x8 (fun _ => 0) x sliceFits_S16384x64_S16384x8 (ix2 p r) = x (ix2 p (r.castLE (by decide) : Fin 64)) :=
  extractStridedSlice_apply _ _ _ _ _ fun a => by
    match a with
    | ⟨0, _⟩ => simp
    | ⟨1, _⟩ => simp

/-- The reference's `r`-th greatest of row `p`. -/
theorem top_value (l : FVec Ideal S16384x64 .f32) (p : Fin 16384) (r : Fin 8) :
    (top l).1 (ix2 p r) = l (ix2 p (place (fun e => l (ix2 p e)) r)) := by
  rw [top_eq]
  exact (first_eight _ p r).trans (sort_row l positions p (r.castLE (by decide))).1

/-- Its position. -/
theorem top_index (l : FVec Ideal S16384x64 .f32) (p : Fin 16384) (r : Fin 8) :
    (top l).2 (ix2 p r) = BitVec.ofNat 32 (place (fun e => l (ix2 p e)) r).val := by
  rw [top_eq]
  exact ((first_eight _ p r).trans (sort_row l positions p (r.castLE (by decide))).2).trans (positions_apply p _)

/-- A number for each row, repeated along the row. -/
theorem spread_apply {α : Type} (x : S16384.Idx → α) (p : Fin 16384) (r : Fin 8) :
    broadcastInDim S16384x8 ![0, 1] bcast_S16384x1_S16384x8_0_1 (broadcastInDim S16384x1 ![0] bcast_S16384_S16384x1_0 x) (ix2 p r)
      = x (ix1 p) := by
  refine (broadcastInDim_apply _ _ _ (ix2 p r) (ix2 p (0 : Fin 1)) fun a => ?_).trans
    (broadcastInDim_apply _ _ _ (ix2 p (0 : Fin 1)) (ix1 p) fun a => ?_)
  · match a with
    | ⟨0, _⟩ => rfl
    | ⟨1, _⟩ => rfl
  · match a with
    | ⟨0, _⟩ => rfl

/-- Dropping the column axis of a row of eight. -/
theorem reduces_row : S16384x8.Reduces [1] S16384 := by decide

/-- The column coordinate put back. -/
theorem lift_row (p : Fin 16384) (k : Fin 8) : reduces_row.lift (ix1 p) k = (ix2 p k : S16384x8.Idx) := by
  funext a
  match a with
  | ⟨0, _⟩ => rfl
  | ⟨1, _⟩ => rfl

/-- The reference's row maximum, of eight whose first is the greatest, is the first. -/
theorem rowMax_apply (v : FVec Ideal S16384x8 .f32) (p : Fin 16384) (h : ∀ k : Fin 8, (v (ix2 p k) : EReal) ≤ v (ix2 p (0 : Fin 8))) :
    (maximumf (broadcastInDim S16384 ![] bcast_S_S16384 (constant S_ .f32 0xFF800000#32))
      (Host.reduce FloatOps.maximumf v (constant S_ .f32 0xFF800000#32) reducesTo_S16384x8_S16384_d1 h_S_) : FVec Ideal S16384 .f32) (ix1 p)
      = v (ix2 p (0 : Fin 8)) := by
  have hm : (Host.reduce FloatOps.maximumf v (constant S_ .f32 0xFF800000#32) reducesTo_S16384x8_S16384_d1 h_S_ : FVec Ideal S16384 .f32) (ix1 p)
      = v (ix2 p (0 : Fin 8)) := by
    rw [hostReduce_maximumf_eq_multiReduction v 0xFF800000#32 reducesTo_S16384x8_S16384_d1 h_S_ reduces_row (.inl rfl) rfl]
    refine (Ideal.multiReduction_maximumf_single v 0xFF800000#32 reduces_row (.inl rfl) rfl (ix1 p)).trans ?_
    show (Finset.univ : Finset (Fin 8)).fold max (Ideal.ofBits .f32 0xFF800000#32) _ = _
    rw [ofBits_bot]
    refine Eq.trans (congrArg (fun f => (Finset.univ : Finset (Fin 8)).fold max ⊥ f) (funext fun k => ?_))
      (fold_max_eq (w := fun k : Fin 8 => v (ix2 p k)) (p := 0) h)
    exact congrArg v (lift_row p k)
  show max (Ideal.ofBits .f32 0xFF800000#32 : EReal) _ = _
  rw [ofBits_bot, hm]
  exact max_eq_right bot_le

/-- The reference's softmax, of a row of eight whose first is the greatest. -/
theorem weights_apply (v : FVec Ideal S16384x8 .f32) (p : Fin 16384) (h : ∀ k : Fin 8, (v (ix2 p k) : EReal) ≤ v (ix2 p (0 : Fin 8)))
    (r : Fin 8) : weights v (ix2 p r) = soft (fun k => v (ix2 p k)) r := by
  have he : ∀ k : Fin 8, (Host.exp (subf v (broadcastInDim S16384x8 ![0, 1] bcast_S16384x1_S16384x8_0_1 (broadcastInDim S16384x1 ![0] bcast_S16384_S16384x1_0
      (maximumf (broadcastInDim S16384 ![] bcast_S_S16384 (constant S_ .f32 0xFF800000#32))
        (Host.reduce FloatOps.maximumf v (constant S_ .f32 0xFF800000#32) reducesTo_S16384x8_S16384_d1 h_S_))))) : FVec Ideal S16384x8 .f32) (ix2 p k)
      = Ideal.exp ((v (ix2 p k) : EReal) - v (ix2 p (0 : Fin 8))) := by
    intro k
    refine congrArg Ideal.exp (congrArg (fun z : EReal => (v (ix2 p k) : EReal) - z) ?_)
    exact (spread_apply _ p k).trans (rowMax_apply v p h)
  unfold weights soft
  simp only []
  rw [hostDivf_apply, he r, spread_apply, hostReduceAdd_apply, Ideal.hostReduceAdd_single reducesTo_S16384x8_S16384_d1 reduces_row]
  have hz : (constant S_ .f32 0x00000000#32 : FVec Ideal S_ .f32) (Shape.Idx.first h_S_) = (0 : EReal) := Ideal.ofBits_zero_f32
  rw [hz, zero_add]
  refine congrArg (Ideal.div _) (Finset.sum_congr rfl fun k _ => ?_)
  exact (congrArg _ (lift_row p k)).trans (he k)

end Cert.Columns
-- ==== Proof.Combine.lean ====
/-
  A block of the kernel's results against the same rows of the reference's: where no logit is minus infinity they agree,
  weights and positions.
-/
module

public import proofs.«01_k».proof.Proof.Reference

@[expose] public section

noncomputable section

namespace Cert.Columns

open Cert.KernelIdeal Cert.KernelIdeal.Gen Cert.Picks Idealize.ShloMosaic Idealize.SL.Sem Idealize.ShloMosaic.ValueIdx

/-- The eight stacked maxima and greatest tags of column `j`, when its 64 logits are the row `v` and none is minus infinity:
    the entries of `v` at the eight sorted positions, and those positions' tags. -/
theorem rounds_read (L : Block) (j : Fin 1024) (v : Fin 64 → EReal) (hv : ∀ e, L (ix2 e j) = v e) (hb : ∀ e, ⊥ < v e) (r : Fin 8) :
    colMax (rounds L r) (ix2 (0 : Fin 1) j) = v (place v r)
    ∧ colMax (tag (rounds L r)) (ix2 (0 : Fin 1) j) = score (place v r)
    ∧ v (place v r) ≤ v (place v 0) := by
  obtain ⟨σ, hR, hm, ht⟩ := exists_rounds L j 8
  have h0 : col (rounds L 0) j = v := funext hv
  have hb' : ∀ q, ⊥ < (fun r => col (rounds L r) j) 0 q := fun q => by
    show ⊥ < col (rounds L 0) j q
    rw [h0]; exact hb q
  have hp : ∀ i : Fin 8, place v i = σ i := fun i => by
    have := hR.sortedFrom hb' (by decide) i
    simp only [h0] at this
    exact this
  have hval : ∀ i : Fin 8, col (rounds L i) j (σ i) = v (σ i) := fun i => by
    have := hR.value hb' (by decide) i i.isLt
    simp only [h0] at this
    exact this
  have hle : col (rounds L r) j (σ r) ≤ v (σ 0) := by
    have := hR.value_le_first hb' (by decide) r r.isLt
    simp only [h0] at this
    exact this
  refine ⟨?_, ?_, ?_⟩
  · rw [hm, hp, hval]
  · rw [ht, hp]
  · rw [hp, hp, ← hval]; exact hle

section Block

variable (x : FVec Ideal S16384x4096 .f32) (w : FVec Ideal S64x4096 .f32) (t : Fin 16)
  (x0 x1 : Vec Ideal S1024x2048 .f32) (x2 x3 : Vec Ideal S64x2048 .f32)
  (h0 : ∀ (j : Fin 1024) (k : Fin 2048), x0 (ix2 j k) = x (ix2 (rowAt t j) (left k)))
  (h1 : ∀ (j : Fin 1024) (k : Fin 2048), x1 (ix2 j k) = x (ix2 (rowAt t j) (right k)))
  (h2 : ∀ (e : Fin 64) (k : Fin 2048), x2 (ix2 e k) = w (ix2 e (left k)))
  (h3 : ∀ (e : Fin 64) (k : Fin 2048), x3 (ix2 e k) = w (ix2 e (right k)))
  (hb : ∀ i, ⊥ < (hostLogits x w i : EReal))
include h0 h1 h2 h3 hb

/-- The kernel's weights at a block entry are the reference's at its row. -/
theorem weights_eq (j : Fin 1024) (r : Fin 8) :
    out0_4 x0 x1 x2 x3 (ix2 j r) = weights (top (hostLogits x w)).1 (ix2 (rowAt t j) r) := by
  have hr := rounds_read (logits x0 x1 x2 x3) j (fun e => hostLogits x w (ix2 (rowAt t j) e))
    (fun e => logits_eq x w t x0 x1 x2 x3 h0 h1 h2 h3 e j) (fun e => hb _)
  rw [out4_eq, softmaxT_apply, weights_apply _ _ (fun k => by rw [top_value, top_value]; exact (hr k).2.2)]
  refine congrArg (fun f => soft f r) (funext fun k => ?_)
  rw [stack_apply, top_value]
  exact (hr k).1

/-- The kernel's positions at a block entry are the reference's at its row. -/
theorem positions_eq (j : Fin 1024) (r : Fin 8) :
    out0_5 x0 x1 x2 x3 (ix2 j r) = (top (hostLogits x w)).2 (ix2 (rowAt t j) r) := by
  have hr := rounds_read (logits x0 x1 x2 x3) j (fun e => hostLogits x w (ix2 (rowAt t j) e))
    (fun e => logits_eq x w t x0 x1 x2 x3 h0 h1 h2 h3 e j) (fun e => hb _)
  rw [out5_eq, top_index]
  exact indexT_apply _ j r _ (by rw [stack_apply]; exact (hr r).2.1)

end Block

end Cert.Columns
-- ==== Proof.Arrays.lean ====
/-
  The kernel's result arrays after the run: at the sixteen grid points it writes sixteen blocks of 1024 rows, which fill
  both arrays, and each is the same rows of the reference's results.
-/
module

public import proofs.«01_k».proof.Proof.Combine
public import proofs.«01_k».proof.Proof.Gen.KernelIdeal.Frame
public import Idealize.ShloMosaic.Lib.Pipeline.Value

@[expose] public section

noncomputable section

namespace Cert.Columns

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Where each window's block lies at each point. -/
theorem index0 : ∀ t : Fin cfg0.N, win0_0.index t (0 : Fin 2) = t.val ∧ win0_0.index t (1 : Fin 2) = 0 :=
  (by decide +kernel : ∀ t : Fin grid0.N, _)
/-- The right half of the rows. -/
theorem index1 : ∀ t : Fin cfg0.N, win0_1.index t (0 : Fin 2) = t.val ∧ win0_1.index t (1 : Fin 2) = 1 :=
  (by decide +kernel : ∀ t : Fin grid0.N, _)
/-- The left half of the matrix. -/
theorem index2 : ∀ t : Fin cfg0.N, win0_2.index t (0 : Fin 2) = 0 ∧ win0_2.index t (1 : Fin 2) = 0 :=
  (by decide +kernel : ∀ t : Fin grid0.N, _)
/-- The right half of the matrix. -/
theorem index3 : ∀ t : Fin cfg0.N, win0_3.index t (0 : Fin 2) = 0 ∧ win0_3.index t (1 : Fin 2) = 1 :=
  (by decide +kernel : ∀ t : Fin grid0.N, _)
/-- The first result's rows. -/
theorem index4 : ∀ t : Fin cfg0.N, win0_4.index t (0 : Fin 2) = t.val ∧ win0_4.index t (1 : Fin 2) = 0 :=
  (by decide +kernel : ∀ t : Fin grid0.N, _)
/-- The second result's rows. -/
theorem index5 : ∀ t : Fin cfg0.N, win0_5.index t (0 : Fin 2) = t.val ∧ win0_5.index t (1 : Fin 2) = 0 :=
  (by decide +kernel : ∀ t : Fin grid0.N, _)

/-- A grid point as one of sixteen. -/
def point (t : Fin cfg0.N) : Fin 16 := ⟨t.val, lt_of_lt_of_eq t.isLt N_0⟩

/-- The block of the rows' left half. -/
theorem block0 (c : Dev nD) (t : Fin cfg0.N) (j : Fin 1024) (k : Fin 2048) :
    iblk m c 0 t (ix2 j k) = m ((c.tc : Thread nD τ).loc main_arg0) (ix2 (rowAt (point t) j) (left k)) := by
  obtain ⟨e0, e1⟩ := index0 t
  show V m c main_arg0 (((cfg0.win 0).blk t).view.emb (ix2 j k)) = _
  rw [V_main_arg0]
  refine congrArg _ (funext fun a => Fin.ext ?_)
  match a with
  | ⟨0, _⟩ => show win0_0.index t (0 : Fin 2) * 1024 + 1 * j.val = t.val * 1024 + j.val; omega
  | ⟨1, _⟩ => show win0_0.index t (1 : Fin 2) * 2048 + 1 * k.val = k.val; omega

/-- The block of the rows' right half. -/
theorem block1 (c : Dev nD) (t : Fin cfg0.N) (j : Fin 1024) (k : Fin 2048) :
    iblk m c 1 t (ix2 j k) = m ((c.tc : Thread nD τ).loc main_arg0) (ix2 (rowAt (point t) j) (right k)) := by
  obtain ⟨e0, e1⟩ := index1 t
  show V m c main_arg0 (((cfg0.win 1).blk t).view.emb (ix2 j k)) = _
  rw [V_main_arg0]
  refine congrArg _ (funext fun a => Fin.ext ?_)
  match a with
  | ⟨0, _⟩ => show win0_1.index t (0 : Fin 2) * 1024 + 1 * j.val = t.val * 1024 + j.val; omega
  | ⟨1, _⟩ => show win0_1.index t (1 : Fin 2) * 2048 + 1 * k.val = 2048 + k.val; omega

/-- The matrix's left half. -/
theorem block2 (c : Dev nD) (t : Fin cfg0.N) (e : Fin 64) (k : Fin 2048) :
    iblk m c 2 t (ix2 e k) = m ((c.tc : Thread nD τ).loc main_arg1) (ix2 e (left k)) := by
  obtain ⟨e0, e1⟩ := index2 t
  show V m c main_arg1 (((cfg0.win 2).blk t).view.emb (ix2 e k)) = _
  rw [V_main_arg1]
  refine congrArg _ (funext fun a => Fin.ext ?_)
  match a with
  | ⟨0, _⟩ => show win0_2.index t (0 : Fin 2) * 64 + 1 * e.val = e.val; omega
  | ⟨1, _⟩ => show win0_2.index t (1 : Fin 2) * 2048 + 1 * k.val = k.val; omega

/-- The matrix's right half. -/
theorem block3 (c : Dev nD) (t : Fin cfg0.N) (e : Fin 64) (k : Fin 2048) :
    iblk m c 3 t (ix2 e k) = m ((c.tc : Thread nD τ).loc main_arg1) (ix2 e (right k)) := by
  obtain ⟨e0, e1⟩ := index3 t
  show V m c main_arg1 (((cfg0.win 3).blk t).view.emb (ix2 e k)) = _
  rw [V_main_arg1]
  refine congrArg _ (funext fun a => Fin.ext ?_)
  match a with
  | ⟨0, _⟩ => show win0_3.index t (0 : Fin 2) * 64 + 1 * e.val = e.val; omega
  | ⟨1, _⟩ => show win0_3.index t (1 : Fin 2) * 2048 + 1 * k.val = 2048 + k.val; omega

/-- Where an entry of the first result's block lies in the array. -/
theorem emb4 (t : Fin cfg0.N) (j : Fin 1024) (r : Fin 8) :
    (((cfg0.win 4).blk t).view.emb (ix2 j r : S1024x8.Idx) : S16384x8.Idx) = ix2 (rowAt (point t) j) r := by
  obtain ⟨e0, e1⟩ := index4 t
  funext a
  apply Fin.ext
  match a with
  | ⟨0, _⟩ => show win0_4.index t (0 : Fin 2) * 1024 + 1 * j.val = t.val * 1024 + j.val; omega
  | ⟨1, _⟩ => show win0_4.index t (1 : Fin 2) * 8 + 1 * r.val = r.val; omega

/-- Where an entry of the second result's block lies in the array. -/
theorem emb5 (t : Fin cfg0.N) (j : Fin 1024) (r : Fin 8) :
    (((cfg0.win 5).blk t).view.emb (ix2 j r : S1024x8.Idx) : S16384x8.Idx) = ix2 (rowAt (point t) j) r := by
  obtain ⟨e0, e1⟩ := index5 t
  funext a
  apply Fin.ext
  match a with
  | ⟨0, _⟩ => show win0_5.index t (0 : Fin 2) * 1024 + 1 * j.val = t.val * 1024 + j.val; omega
  | ⟨1, _⟩ => show win0_5.index t (1 : Fin 2) * 8 + 1 * r.val = r.val; omega

/-- An index of a result array is row `1024 t + j`, column `r`, of some point `t`. -/
theorem exists_point (i : S16384x8.Idx) : ∃ (t : Fin cfg0.N) (j : Fin 1024) (r : Fin 8), (ix2 (rowAt (point t) j) r : S16384x8.Idx) = i := by
  have hi : (i 0).val < 16384 := (i 0).isLt
  refine ⟨⟨(i 0).val / 1024, by rw [show cfg0.N = 16 from N_0]; omega⟩, ⟨(i 0).val % 1024, by omega⟩, i 1, ?_⟩
  funext a
  match a with
  | ⟨0, _⟩ => exact Fin.ext (show (i 0).val / 1024 * 1024 + (i 0).val % 1024 = (i 0).val by omega)
  | ⟨1, _⟩ => rfl

/-- The logits of the arguments a device is launched with. -/
def launched (c : Dev nD) : FVec Ideal Cert.ReferenceIdeal.S16384x64 .f32 :=
  hostLogits (m ((c.tc : Thread nD τ).loc main_arg0)) (m ((c.tc : Thread nD τ).loc main_arg1))

section Device

variable (c : Dev nD) (hb : ∀ i, ⊥ < (launched m c i : EReal))
include hb

/-- The first result array after the run: the reference's weights. -/
theorem final4 : (dats m 0 c).arrAt 4 cfg0.N = weights (top (launched m c)).1 := by
  refine (dats m 0 c).arrAt_eq_of_cover 4 (weights (top (launched m c)).1) (fun t _ => ?_) (fun i => ?_)
  · show (cfg0.win 4).cut (grid0.coords t) ((dats m 0 c).after 4 t) = _
    rw [after0_4]
    funext (y : S1024x8.Idx)
    obtain ⟨j, r, rfl⟩ : ∃ (j : Fin 1024) (r : Fin 8), y = ix2 j r := ⟨y 0, y 1, eq_ix2 y⟩
    show out0_4 (iblk m c 0 t) (iblk m c 1 t) (iblk m c 2 t) (iblk m c 3 t) (ix2 j r)
      = weights (top (launched m c)).1 (((cfg0.win 4).blk t).view.emb (ix2 j r : S1024x8.Idx))
    rw [emb4]
    exact weights_eq _ _ (point t) _ _ _ _ (block0 m c t) (block1 m c t) (block2 m c t) (block3 m c t) hb j r
  · obtain ⟨t, j, r, e⟩ := exists_point i
    refine ⟨t, flush0_4 t, ?_⟩
    have h := ((cfg0.win 4).blk t).view.emb_mem_set (ix2 j r : S1024x8.Idx)
    rw [emb4, e] at h
    exact h

/-- The second result array after the run: the reference's positions. -/
theorem final5 : (dats m 0 c).arrAt 5 cfg0.N = (top (launched m c)).2 := by
  refine (dats m 0 c).arrAt_eq_of_cover 5 ((top (launched m c)).2) (fun t _ => ?_) (fun i => ?_)
  · show (cfg0.win 5).cut (grid0.coords t) ((dats m 0 c).after 5 t) = _
    rw [after0_5]
    funext (y : S1024x8.Idx)
    obtain ⟨j, r, rfl⟩ : ∃ (j : Fin 1024) (r : Fin 8), y = ix2 j r := ⟨y 0, y 1, eq_ix2 y⟩
    show out0_5 (iblk m c 0 t) (iblk m c 1 t) (iblk m c 2 t) (iblk m c 3 t) (ix2 j r)
      = (top (launched m c)).2 (((cfg0.win 5).blk t).view.emb (ix2 j r : S1024x8.Idx))
    rw [emb5]
    exact positions_eq _ _ (point t) _ _ _ _ (block0 m c t) (block1 m c t) (block2 m c t) (block3 m c t) hb j r
  · obtain ⟨t, j, r, e⟩ := exists_point i
    refine ⟨t, flush0_5 t, ?_⟩
    have h := ((cfg0.win 5).blk t).view.emb_mem_set (ix2 j r : S1024x8.Idx)
    rw [emb5, e] at h
    exact h

end Device

/-- The kernel's run, where no logit is minus infinity: its results are the reference's terms of its arguments, and the
    arguments end unchanged. -/
theorem kernel_run (hb : ∀ c i, ⊥ < (launched m c i : EReal)) :
    θ_run defs (onTc (τ := τ) (main (F := Ideal))) ⟨m, fun _ => 0, ρ⟩ fun r => ∀ c : Dev nD,
      r.2.mem ((c.tc : Thread nD τ).loc main_v0_0) = weights (top (launched m c)).1
      ∧ r.2.mem ((c.tc : Thread nD τ).loc main_v0_1) = (top (launched m c)).2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 4).trans (final4 m c (hb c)), ((h c).1 5).trans (final5 m c (hb c)),
    ((h c).1 1).trans (((dats m 0 c).arrAt_in 1 rfl _).trans ((A_eq m c 1).trans (V_main_arg0 m c))),
    ((h c).1 3).trans (((dats m 0 c).arrAt_in 3 rfl _).trans ((A_eq m c 3).trans (V_main_arg1 m c)))⟩) (run_main m ρ)

end Cert.Columns
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_logit_is_minus_infinity
public import proofs.«01_k».proof.Proof.Arrays
public import Idealize.ShloMosaic.Lib.Quiescent
public import Idealize.ShloMosaic.Adequacy
public import Idealize.ShloMosaic.Init

@[expose] public section

noncomputable section

namespace Cert.Proof

open Idealize.ShloMosaic Idealize.SL.Sem Cert.Columns

/-- The kernel runs, its arguments unchanged. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- And from arguments meeting the precondition. -/
theorem frame_ideal_pre : Cert.quiescent_KernelIdeal_pre_no_logit_is_minus_infinity :=
  fun m ρ _ => Cert.KernelIdeal.Gen.frame m ρ

/-- The reference runs, its arguments unchanged; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- And from arguments meeting the precondition. -/
theorem frame_reference_pre : Cert.quiescent_ReferenceIdeal_pre_no_logit_is_minus_infinity := fun m ρ _ =>
  frame_reference m ρ trivial

/-- The idealization rewrote nothing. -/
theorem preserves : Cert.preserves_Kernel_KernelIdeal := trivial

/-- The precondition says that every logit of the reference is above minus infinity. -/
theorem above_bot (m : (ℓ : Loc Cert.KernelIdeal.nD Cert.KernelIdeal.τ Cert.KernelIdeal.sig) → Buf (Elt Ideal) ℓ)
    (h : Cert.Pre_KernelIdeal_no_logit_is_minus_infinity m) (c : Dev Cert.KernelIdeal.nD) (i : Cert.ReferenceIdeal.S16384x64.Idx) :
    ⊥ < (launched m c i : EReal) := by
  have h1 : Ideal.cmp .ogt (launched m c i) (Ideal.ofBits .f32 0xFF800000#32) = 1#1 := congrFun (h c) i
  rw [ofBits_bot] at h1
  by_contra hn
  simp [Ideal.cmp, hn] at h1

/-- Where no logit is minus infinity the kernel's results are the reference's. -/
theorem algebraic : Cert.algebraic_KernelIdeal_ReferenceIdeal_pre_no_logit_is_minus_infinity := by
  intro m ρ m' ρ' hpre hagree
  refine ⟨fun c => weights (top (launched m c)).1, fun c => (top (launched m c)).2, kernel_run m ρ (above_bot m hpre), ?_⟩
  have e : ∀ c : Dev Cert.KernelIdeal.nD, hostLogits
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = launched m c := fun c => by
    rw [(hagree c).1, (hagree c).2]; rfl
  exact (θ_run Cert.ReferenceIdeal.defs _ _).mono (fun _ h c =>
    ⟨(h c).1.trans (congrArg (fun l => weights (top l).1) (e c)), (h c).2.1.trans (congrArg (fun l => (top l).2) (e c)), (h c).2.2⟩)
    (Cert.ReferenceIdeal.Value.run (F := Ideal) m' ρ')

/-- All the claims. -/
theorem claim : Cert.Claim :=
  ⟨Cert.Kernel.Gen.facts, Cert.KernelIdeal.Gen.facts, Cert.ReferenceIdeal.Gen.facts, Cert.Pre_no_logit_is_minus_infinity.Gen.facts,
    frame_kernel, frame_ideal, frame_ideal_pre, frame_reference, frame_reference_pre, preserves, algebraic⟩

end Cert.Proof

end
